-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_targets_nonneg [hPre_targets_nonneg : Cert.Pre_targets_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_targets_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_targets_nonneg [hPre_targets_nonneg : Cert.Pre_targets_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_targets_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_targets_nonneg [hKernelIdeal : Cert.KernelIdeal.Facts] [hPre_targets_nonneg : Cert.Pre_targets_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_targets_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_targets_nonneg [hReferenceIdeal : Cert.ReferenceIdeal.Facts] [hPre_targets_nonneg : Cert.Pre_targets_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_targets_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_targets_nonneg [hKernelIdeal : Cert.KernelIdeal.Facts] [hReferenceIdeal : Cert.ReferenceIdeal.Facts] [hPre_targets_nonneg : Cert.Pre_targets_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_targets_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_targets_nonneg : Cert.Pre_targets_nonneg.Facts),
    quiescent_Kernel (hKernel := hKernel)
    ∧ quiescent_KernelIdeal (hKernelIdeal := hKernelIdeal)
    ∧ quiescent_KernelIdeal_pre_targets_nonneg (hKernelIdeal := hKernelIdeal) (hPre_targets_nonneg := hPre_targets_nonneg)
    ∧ quiescent_ReferenceIdeal (hReferenceIdeal := hReferenceIdeal)
    ∧ quiescent_ReferenceIdeal_pre_targets_nonneg (hReferenceIdeal := hReferenceIdeal) (hPre_targets_nonneg := hPre_targets_nonneg)
    ∧ preserves_Kernel_KernelIdeal
    ∧ algebraic_KernelIdeal_ReferenceIdeal_pre_targets_nonneg (hKernelIdeal := hKernelIdeal) (hReferenceIdeal := hReferenceIdeal) (hPre_targets_nonneg := hPre_targets_nonneg)
-- ==== Pre_targets_nonneg.lean ====
abbrev S1000000x64 : Shape := ⟨2, ![1000000, 64]⟩
abbrev S1000000x1 : Shape := ⟨2, ![1000000, 1]⟩
abbrev S64 : Shape := ⟨1, ![64]⟩
abbrev S_ : Shape := ⟨0, ![]⟩

class Facts : Prop where
  bcast_S_S1000000x1 : S_.BroadcastsInDim S1000000x1 (![] : Fin 0 → Fin S1000000x1.rank)
  reducesTo_S1000000x1_S_d0_1 : S1000000x1.ReducesTo [0, 1] S_
  h_S_ : 0 < S_.numel

variable [Facts]

def fn {F : FTy → Type} [FloatOps F] (main_arg0 : FVec F S1000000x64 .f32) (main_arg1 : IVec S1000000x1 32) (main_arg2 : FVec F S64 .f32) : IVec S_ 1 :=
  let main_c : IVec S_ 32 := constantI S_ 32 0#32
  let main_v0 : IVec S1000000x1 32 := broadcastInDim S1000000x1 ![] bcast_S_S1000000x1 main_c
  let main_v1 : IVec S1000000x1 1 := cmpi .sge main_arg1 main_v0
  let main_c_0 : IVec S_ 1 := constantI S_ 1 1#1
  let main_v2 : IVec S_ 1 := (fun x v => Host.reduce IntOp.andi x v reducesTo_S1000000x1_S_d0_1 h_S_) main_v1 main_c_0
  main_v2
-- ==== Kernel.lean ====
abbrev S1000000x64 : Shape := ⟨2, ![1000000, 64]⟩
abbrev S1000000x1 : Shape := ⟨2, ![1000000, 1]⟩
abbrev S64 : Shape := ⟨1, ![64]⟩
abbrev S1x64 : Shape := ⟨2, ![1, 64]⟩
abbrev S50x1x20000 : Shape := ⟨3, ![50, 1, 20000]⟩
abbrev S1x1 : Shape := ⟨2, ![1, 1]⟩
abbrev S20000x64 : Shape := ⟨2, ![20000, 64]⟩
abbrev S1x1x20000 : Shape := ⟨3, ![1, 1, 20000]⟩
abbrev S64x64 : Shape := ⟨2, ![64, 64]⟩
abbrev S20000 : Shape := ⟨1, ![20000]⟩
abbrev S20000x1 : Shape := ⟨2, ![20000, 1]⟩
abbrev S1x20000 : Shape := ⟨2, ![1, 20000]⟩
abbrev S64x20000 : Shape := ⟨2, ![64, 20000]⟩
abbrev S64x1 : Shape := ⟨2, ![64, 1]⟩
abbrev S1x64x64 : Shape := ⟨3, ![1, 64, 64]⟩
abbrev S1 : Shape := ⟨1, ![1]⟩
abbrev S1x1x1 : Shape := ⟨3, ![1, 1, 1]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S1000000x64, .f32⟩
  | .hbm, ⟨1, _⟩ => ⟨S1000000x1, .i32⟩
  | .hbm, ⟨2, _⟩ => ⟨S64, .f32⟩
  | .hbm, ⟨3, _⟩ => ⟨S1x64, .f32⟩
  | .hbm, ⟨4, _⟩ => ⟨S50x1x20000, .i32⟩
  | .hbm, ⟨5, _⟩ => ⟨S1x1, .f32⟩
  | .hbm, ⟨6, _⟩ => ⟨S_, .f32⟩
  | .local _ .vmem, ⟨0, _⟩ => ⟨S20000x64, .f32⟩
  | .local _ .vmem, ⟨1, _⟩ => ⟨S20000x64, .f32⟩
  | .local _ .vmem, ⟨2, _⟩ => ⟨S1x64, .f32⟩
  | .local _ .vmem, ⟨3, _⟩ => ⟨S1x1x20000, .i32⟩
  | .local _ .vmem, ⟨4, _⟩ => ⟨S1x1x20000, .i32⟩
  | .local _ .vmem, ⟨5, _⟩ => ⟨S1x1, .f32⟩
  | .local _ .vmem, ⟨6, _⟩ => ⟨S64x64, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c49_i32 : BitVec 32 := 49#32
  let v40 : BitVec 1 := Scalar.cmpi .eq arg0 c49_i32
  let v41 : BitVec 32 := Scalar.extui v40
  let c0_i32_15 : BitVec 32 := 0#32
  let v42 : BitVec 1 := Scalar.cmpi .ne v41 c0_i32_15
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x20000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1000000x64 : Shape := ⟨2, ![1000000, 64]⟩
abbrev S1000000x1 : Shape := ⟨2, ![1000000, 1]⟩
abbrev S64 : Shape := ⟨1, ![64]⟩
abbrev S1x64 : Shape := ⟨2, ![1, 64]⟩
abbrev S_ : Shape := ⟨0, ![]⟩
abbrev S1000000 : Shape := ⟨1, ![1000000]⟩
abbrev S64x64 : Shape := ⟨2, ![64, 64]⟩
abbrev S1000000x2 : Shape := ⟨2, ![1000000, 2]⟩
abbrev S64x1 : Shape := ⟨2, ![64, 1]⟩
abbrev S64x2 : Shape := ⟨2, ![64, 2]⟩

abbrev nBuf : Space → Nat
  | .hbm => 70
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000x1, .i32⟩
  | .hbm, ⟨2, _⟩ => ⟨S64, .f32⟩
  | .hbm, ⟨3, _⟩ => ⟨S1x64, .f32⟩
  | .hbm, ⟨4, _⟩ => ⟨S1000000x64, .f32⟩
  | .hbm, ⟨5, _⟩ => ⟨S1000000x64, .f32⟩
  | .hbm, ⟨6, _⟩ => ⟨S1000000x64, .i32⟩
  | .hbm, ⟨7, _⟩ => ⟨S_, .f32⟩
  | .hbm, ⟨8, _⟩ => ⟨S_, .i32⟩
  | .hbm, ⟨9, _⟩ => ⟨S1000000, .f32⟩
  | .hbm, ⟨10, _⟩ => ⟨S1000000, .i32⟩
  | .hbm, ⟨11, _⟩ => ⟨S1000000, .i32⟩
  | .hbm, ⟨12, _⟩ => ⟨S_, .f32⟩
  | .hbm, ⟨13, _⟩ => ⟨S64x64, .f32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x1, .i32⟩
  | .hbm, ⟨30, _⟩ => ⟨S1000000x2, .i32⟩
  | .hbm, ⟨31, _⟩ => ⟨S_, .f32⟩
  | .hbm, ⟨32, _⟩ => ⟨S1000000, .f32⟩
  | .hbm, ⟨33, _⟩ => ⟨S64x64, .f32⟩
  | .hbm, ⟨34, _⟩ => ⟨S64, .i32⟩
  | .hbm, ⟨35, _⟩ => ⟨S_, .i32⟩
  | .hbm, ⟨36, _⟩ => ⟨S64, .i32⟩
  | .hbm, ⟨37, _⟩ => ⟨S64, .i1⟩
  | .hbm, ⟨38, _⟩ => ⟨S_, .i32⟩
  | .hbm, ⟨39, _⟩ => ⟨S64, .i32⟩
  | .hbm, ⟨40, _⟩ => ⟨S64, .i32⟩
  | .hbm, ⟨41, _⟩ => ⟨S64, .i32⟩
  | .hbm, ⟨42, _⟩ => ⟨S_, .i32⟩
  | .hbm, ⟨43, _⟩ => ⟨S64, .i32⟩
  | .hbm, ⟨44, _⟩ => ⟨S64, .i1⟩
  | .hbm, ⟨45, _⟩ => ⟨S_, .i32⟩
  | .hbm, ⟨46, _⟩ => ⟨S64, .i32⟩
  | .hbm, ⟨47, _⟩ => ⟨S64, .i32⟩
  | .hbm, ⟨48, _⟩ => ⟨S64, .i32⟩
  | .hbm, ⟨49, _⟩ => ⟨S64x1, .i32⟩
  | .hbm, ⟨50, _⟩ => ⟨S64x1, .i32⟩
  | .hbm, ⟨51, _⟩ => ⟨S64x2, .i32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_cst : Ref sig .tc := ⟨.hbm, 7, rfl⟩
abbrev main_call0_c : Ref sig .tc := ⟨.hbm, 8, rfl⟩
abbrev main_call0_v1_0 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]
-- ==== Proof.Accumulate.lean ====
/-
  What the kernel leaves behind, in terms of what one grid point computes.

  The grid has 50 points, visited in order. The kernel keeps one 64x64 table in scratch memory: the first point
  clears it, every point adds its own block's counts to it, and the last point turns the finished table into the
  loss and stores that. Here the table after each point is written as a recursion (`table`), and the array the
  launch returns is shown to be the loss of the table after the last point.
-/
module

public import proofs.«01_k».proof.Proof.Gen.KernelIdeal.Frame
public import Idealize.ShloMosaic.Lib.Pipeline.ValueKit
public import Idealize.ShloMosaic.Lib.Pipeline.ReadBack

@[expose] public section

noncomputable section

namespace Cert.KernelIdeal.Accumulate

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The table after point `n`: the zero table with blocks `0 … n` added, in that order. -/
def table (c : Dev nD) : (n : ℕ) → n < cfg0.N → Vec F S64x64 .f32
  | 0, h => k0_pay4 (iblk m c 0 ⟨0, h⟩) (iblk m c 1 ⟨0, h⟩) (iblk m c 2 ⟨0, h⟩) k0_pay2
  | n + 1, h => k0_pay4 (iblk m c 0 ⟨n + 1, h⟩) (iblk m c 1 ⟨n + 1, h⟩) (iblk m c 2 ⟨n + 1, h⟩)
      (table c n (Nat.lt_of_succ_lt h))

/-- The scratch after point `n` holds the table. -/
theorem scratch_eq (c : Dev nD) : ∀ (n : ℕ) (h : n < cfg0.N), (outsAt0 m c n h).2 = table m c n h
  | 0, h => by
    rw [outsAt0_A m c ⟨0, h⟩ (Nat.zero_mod _) (by dsimp only; omega)]
    frame_out
    rfl
  | n + 1, h => by
    have hN : n + 1 < 50 := lt_of_lt_of_eq h N_0
    have ih := scratch_eq c n (Nat.lt_of_succ_lt h)
    by_cases h1 : (n + 1) % 50 = 49
    · rw [outsAt0_C m c ⟨n + 1, h⟩ (by dsimp only; omega) h1]
      frame_out
      simp only [read_unread_whole, Nat.add_sub_cancel, ih]
      rfl
    · rw [outsAt0_B m c ⟨n + 1, h⟩ (by dsimp only; omega) h1]
      frame_out
      simp only [read_unread_whole, Nat.add_sub_cancel, ih]
      rfl

/-- The last of the 50 points. -/
abbrev lastPt : Fin cfg0.N := ⟨49, lt_of_lt_of_eq (by decide) N_0.symm⟩

/-- The table after the last point. -/
abbrev finalTable (c : Dev nD) : Vec F S64x64 .f32 := table m c 49 lastPt.isLt

/-- The output block after the last point is the loss computed from the finished table. -/
theorem block_eq (c : Dev nD) : (outsAt0 m c lastPt.val lastPt.isLt).1 = k0_pay1 (finalTable m c) := by
  have e := scratch_eq m c 48 (lt_of_lt_of_eq (by decide) N_0.symm)
  rw [outsAt0_C m c lastPt (by decide) (by decide)]
  frame_out
  simp only [read_unread_whole, lastPt, Nat.reduceSub, e]
  rfl

/-- The array that the launch returns: the loss of the finished table (written back once, after the last point). -/
theorem array_eq (c : Dev nD) : (dats m 0 c).arrAt 3 cfg0.N = k0_pay1 (finalTable m c) := by
  refine (dats m 0 c).arrAt_eq_of_after_last 3 lastPt (by decide +kernel) _ fun j => ?_
  blk_simp
  rw [after0_3, block_eq]

/-- The host's last line reads the launch's one-entry array as a scalar. -/
theorem result_eq (c : Dev nD) :
    Pipeline.afterTail₀ cfgs (dats m) 0 (V0 m) [hostOps1] c main_v3
      = shapeCast S_ (k0_pay1 (finalTable m c)) shapeCasts_S1x1_S_ := by
  unfold Pipeline.afterTail₀
  have h : ∀ σ : Valuation τ sig (Elt F), StableHlo.after (List.flatten [hostOps1]) σ (Proc.devRef .tc main_v3)
      = shapeCast S_ (σ (Proc.devRef .tc main_v2)) shapeCasts_S1x1_S_ := fun σ => rfl
  rw [h]
  refine congrArg (fun x => shapeCast S_ x shapeCasts_S1x1_S_) ?_
  exact (Pipeline.withArrays_arr spec0 launch0.win.arr_inj c (V0 m c) (fun w => (dats m 0 c).arrAt w cfg0.N) 3).trans
    (array_eq m c)

/-- The kernel's run: its two results and its three arguments. -/
theorem run : θ_run defs (onTc (τ := τ) (main (F := F))) ⟨m, fun _ => 0, ρ⟩ fun r => ∀ c : Dev nD,
      r.2.mem ((c.tc : Thread nD τ).loc main_v3) = shapeCast S_ (k0_pay1 (finalTable m c)) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v3 (Pipeline.mem_restRefs_of main_v3 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Accumulate

end
-- ==== Proof.RefRun.lean ====
/-
  The reference's run: what each of its values is as a function of its three arguments, and that running it
  leaves the last of those values in its result buffer and every argument as it was.
-/
module

public import proofs.«01_k».proof.Proof.Gen.ReferenceIdeal
public import Idealize.ShloMosaic.Lib.Claim
public import Idealize.ShloMosaic.PureOps.Ideal

@[expose] public section

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-! The reference's values, one definition per named value of the program. -/

/-- `class_weight * inputs`. -/
def weighted (x : FVec F S1000000x64 .f32) (w : FVec F S64 .f32) : FVec F S1000000x64 .f32 :=
  mulf (broadcastInDim S1000000x64 ![0, 1] bcast_S1x64_S1000000x64_0_1 (broadcastInDim S1x64 ![1] bcast_S64_S1x64_1 w)) x

/-- The second component of each pair. -/
def places {ι α β : Type} (b : ι → α × β) : ι → β := fun j => (b j).2

/-- `argmax` along the classes: the second component of the reduction over (value, class) pairs. -/
def pred (v : FVec F S1000000x64 .f32) : IVec S1000000 32 :=
  places (Host.argReduce reducer_argmax_f32_i32 v (iotaInDim S1000000x64 32 1) (constant S_ .f32 0xFF800000#32)
    (constantI S_ 32 0#32) reducesTo_S1000000x64_S1000000_d1 h_S_)

/-- The targets as a vector. -/
def targets (t : IVec S1000000x1 32) : IVec S1000000 32 := shapeCast S1000000 t shapeCasts_S1000000x1_S1000000

/-- An index read the way an indexed read or write reads it: a negative one counts from the end. -/
def wrapRows (p : IVec S1000000 32) : IVec S1000000 32 :=
  select (cmpi .slt p (broadcastInDim S1000000 ![] bcast_S_S1000000 (constantI S_ 32 0#32)))
    (addi p (broadcastInDim S1000000 ![] bcast_S_S1000000 (constantI S_ 32 64#32))) p

/-- The (prediction, target) pairs, one row each. -/
def pairs (p t : IVec S1000000 32) : IVec S1000000x2 32 :=
  concatenate S1000000x2 1
    [⟨S1000000x1, broadcastInDim S1000000x1 ![0] bcast_S1000000_S1000000x1_0 (wrapRows p)⟩,
     ⟨S1000000x1, broadcastInDim S1000000x1 ![0] bcast_S1000000_S1000000x1_0 (wrapRows t)⟩]
    concatenates_S1000000x1_S1000000x1_S1000000x2_d1

/-- The table of counts: one added at each pair. -/
def counts (p t : IVec S1000000 32) : FVec F S64x64 .f32 :=
  Host.scatterAdd scatter_S64x64_S1000000x2_S1000000_n_01_01_1
    (broadcastInDim S64x64 ![] bcast_S_S64x64 (constant S_ .f32 0x00000000#32)) (pairs p t)
    (broadcastInDim S1000000 ![] bcast_S_S1000000 (constant S_ .f32 0x3F800000#32))

/-- The class numbers, read as an index. -/
def classes : IVec S64 32 :=
  select (cmpi .slt (iotaInDim S64 32 0) (broadcastInDim S64 ![] bcast_S_S64 (constantI S_ 32 0#32)))
    (addi (iotaInDim S64 32 0) (broadcastInDim S64 ![] bcast_S_S64 (constantI S_ 32 64#32))) (iotaInDim S64 32 0)

/-- The (class, class) pairs. -/
def classPairs : IVec S64x2 32 :=
  concatenate S64x2 1
    [⟨S64x1, broadcastInDim S64x1 ![0] bcast_S64_S64x1_0 classes⟩,
     ⟨S64x1, broadcastInDim S64x1 ![0] bcast_S64_S64x1_0 classes⟩]
    concatenates_S64x1_S64x1_S64x2_d1

/-- The table's diagonal. -/
def diagonal (cm : FVec F S64x64 .f32) : FVec F S64 .f32 :=
  Host.gather gather_S64x64_S64x2_S64_n_01_n_n_01_1_11 cm classPairs

/-- `diag / sum(cm, 0)`. -/
def precision (cm : FVec F S64x64 .f32) : FVec F S64 .f32 :=
  Host.divf (diagonal cm) (Host.reduceAdd cm (constant S_ .f32 0x00000000#32) reducesTo_S64x64_S64_d0 h_S_)

/-- `diag / sum(cm, 1)`. -/
def recall (cm : FVec F S64x64 .f32) : FVec F S64 .f32 :=
  Host.divf (diagonal cm) (Host.reduceAdd cm (constant S_ .f32 0x00000000#32) reducesTo_S64x64_S64_d1 h_S_)

/-- The F1 scores of a precision and a recall. -/
def scores (p r : FVec F S64 .f32) : FVec F S64 .f32 :=
  Host.divf (mulf (mulf (broadcastInDim S64 ![] bcast_S_S64 (constant S_ .f32 0x40000000#32)) p) r) (addf p r)

/-- The loss of a table of counts: minus the mean score. -/
def loss (cm : FVec F S64x64 .f32) : FVec F S_ .f32 :=
  Host.negf (Host.divf
    (Host.reduceAdd (scores (precision cm) (recall cm)) (constant S_ .f32 0x00000000#32) reducesTo_S64_S_d0 h_S_)
    (constant S_ .f32 0x42800000#32))

/-- The reference's first result, a function of its arguments. -/
def result (x : FVec F S1000000x64 .f32) (t : IVec S1000000x1 32) (w : FVec F S64 .f32) : FVec F S_ .f32 :=
  loss (counts (pred (weighted x w)) (targets t))

variable (m : (ℓ : Loc nD τ sig) → Buf (Elt F) ℓ) (ρ : Dev nD → PrngReg)

/-- The reference's run: its result and its three arguments. -/
theorem run : θ_run defs (onTc (τ := τ) (main (F := F))) ⟨m, fun _ => 0, ρ⟩ fun r => ∀ c : Dev nD,
      r.2.mem ((c.tc : Thread nD τ).loc main_v47)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  hlo_run
  rfl

/-- Running the reference ends, with every argument as it was and every semaphore at rest. -/
theorem frame : θ_run defs (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0 :=
  (θ_run defs _ _).mono (fun r h => ⟨fun c => (h c).2, sem_eq_zero_of_no_sems rfl _⟩) (run m ρ)

end Cert.ReferenceIdeal.RefRun

end
-- ==== Proof.Pre.lean ====
/-
  What the precondition says: every target, read as a signed integer, is not negative.
-/
module

public import proofs.«01_k».proof.Pre_targets_nonneg
public import Idealize.ShloMosaic.Lib.Pointwise
public import Idealize.ShloMosaic.Lib.StableHlo.Predicate

@[expose] public section

noncomputable section

namespace Cert.Pre_targets_nonneg

open Idealize.ShloMosaic

/-- The shape relations the precondition's operations take. -/
theorem facts : Facts where
  bcast_S_S1000000x1 := by decide
  reducesTo_S1000000x1_S_d0_1 := by decide
  h_S_ := by decide

/-- "And" of two bits is one only if both are. -/
theorem both_one : ∀ p q : BitVec 1, IntOp.andi p q = 1#1 → p = 1#1 ∧ q = 1#1 := by decide

/-- A running "and" that ends at one began at one and met only ones. -/
theorem all_one {ι : Type} (x : ι → BitVec 1) : ∀ (l : List ι) (p : BitVec 1),
    l.foldl (fun q i => IntOp.andi q (x i)) p = 1#1 → p = 1#1 ∧ ∀ i ∈ l, x i = 1#1
  | [], p, e => ⟨e, fun _ h => absurd h List.not_mem_nil⟩
  | k :: l, p, e => by
    obtain ⟨hk, hl⟩ := all_one x l _ e
    obtain ⟨hp, hx⟩ := both_one _ _ hk
    refine ⟨hp, fun i hi => ?_⟩
    rcases List.mem_cons.mp hi with rfl | hi
    · exact hx
    · exact hl i hi

/-- If the "and" of all entries of an array of bits is one, each entry is one. -/
theorem bits_of_all {s t u : Shape} {dims : List (Fin s.rank)} (x : IVec s 1) (v : IVec u 1) (h : s.ReducesTo dims t)
    (hu : 0 < u.numel) (j : t.Idx) (hj : ∀ i, h.drop i = j) (e : Host.reduce IntOp.andi x v h hu j = 1#1) (i : s.Idx) :
    x i = 1#1 := by
  rw [Host.reduce_eq_foldl] at e
  refine (all_one x _ _ e).2 i (List.mem_filter.mpr ⟨List.mem_map.mpr ⟨s.rowMajor i, List.mem_finRange _, ?_⟩, by simp [hj i]⟩)
  exact s.rowMajor.symm_apply_apply i

/-- A word that is at least zero as a signed number is below 2³¹ as an unsigned one. -/
theorem small_of_sge (w : BitVec 32) (h : IntOp.cmpi .sge w 0#32 = 1#1) : w.toNat < 2 ^ 31 := by
  have h0 : (0 : ℤ) ≤ w.toInt := by
    simpa [IntOp.cmpi, StableHlo.Predicate.ofBool_eq_one_iff, BitVec.sle] using h
  rw [BitVec.toInt_eq_toNat_cond] at h0
  split at h0 <;> omega

/-- The precondition in plain terms: no target is negative. -/
theorem targets_small [Facts] (x : FVec Ideal S1000000x64 .f32) (t : IVec S1000000x1 32) (w : FVec Ideal S64 .f32)
    (h : fn (F := Ideal) x t w = fun _ => 1#1) (i : S1000000x1.Idx) : (t i).toNat < 2 ^ 31 := by
  refine small_of_sge _ ?_
  have e := congrFun h (fun k => k.elim0)
  have b := bits_of_all _ _ _ _ _ (fun _ => funext fun k => k.elim0) e i
  exact b

end Cert.Pre_targets_nonneg

end
-- ==== Proof.FirstMax.lean ====
/-
  The first place at which a finite list of extended reals is greatest: what it is, that there is one and only one,
  and that a fold over (value, place) pairs that keeps the better pair finds it, in whatever order the pairs come.
-/
module

public import Mathlib.Data.EReal.Basic
public import Mathlib.Data.Fintype.Basic
public import Mathlib.Data.Fin.Basic

@[expose] public section

namespace Cert.FirstMax

/-- `j` is the first place at which `v` is greatest. -/
def IsFirstMax {n : ℕ} (v : Fin n → EReal) (j : Fin n) : Prop := (∀ k, v k ≤ v j) ∧ ∀ k, k < j → v k < v j

/-- There is only one first greatest place. -/
theorem IsFirstMax.unique {n : ℕ} {v : Fin n → EReal} {i j : Fin n} (hi : IsFirstMax v i) (hj : IsFirstMax v j) : i = j := by
  rcases lt_trichotomy i j with h | h | h
  · exact absurd (hi.1 j) (not_le.2 (hj.2 i h))
  · exact h
  · exact absurd (hj.1 i) (not_le.2 (hi.2 j h))

/-- `j` is it as soon as some first greatest place is known to be `i`: the test is equality. -/
theorem IsFirstMax.iff_eq {n : ℕ} {v : Fin n → EReal} {i : Fin n} (hi : IsFirstMax v i) (j : Fin n) : IsFirstMax v j ↔ i = j :=
  ⟨fun h => hi.unique h, fun h => h ▸ hi⟩

variable {W : Type} (rank : W → ℤ)

/-- The pair `a` is at least as good as `b`: a greater value, or the same value at a place no later. -/
def AtLeast (a b : EReal × W) : Prop := b.1 < a.1 ∨ (a.1 = b.1 ∧ rank a.2 ≤ rank b.2)

theorem AtLeast.refl (a : EReal × W) : AtLeast rank a a := Or.inr ⟨rfl, le_rfl⟩

theorem AtLeast.trans {a b c : EReal × W} (h : AtLeast rank a b) (h' : AtLeast rank b c) : AtLeast rank a c := by
  rcases h with h | ⟨h, hr⟩ <;> rcases h' with h' | ⟨h', hr'⟩
  · exact Or.inl (h'.trans h)
  · exact Or.inl (h' ▸ h)
  · exact Or.inl (h ▸ h')
  · exact Or.inr ⟨h.trans h', hr.trans hr'⟩

/-- A fold that at each step keeps one of its two pairs, the one kept at least as good as both, ends at one of the pairs
    it was given that is at least as good as them all. -/
theorem fold_best (step : EReal × W → EReal × W → EReal × W)
    (keeps : ∀ a b, step a b = a ∨ step a b = b)
    (good : ∀ a b, AtLeast rank (step a b) a ∧ AtLeast rank (step a b) b) :
    ∀ (L : List (EReal × W)) (s : EReal × W),
      (L.foldl step s = s ∨ L.foldl step s ∈ L) ∧ AtLeast rank (L.foldl step s) s ∧ ∀ p ∈ L, AtLeast rank (L.foldl step s) p
  | [], s => ⟨Or.inl rfl, AtLeast.refl rank s, fun _ h => absurd h List.not_mem_nil⟩
  | b :: L, s => by
    obtain ⟨hm, hs, hL⟩ := fold_best step keeps good L (step s b)
    obtain ⟨g1, g2⟩ := good s b
    simp only [List.foldl_cons]
    refine ⟨?_, hs.trans rank g1, fun p hp => ?_⟩
    · rcases hm with hm | hm
      · rcases keeps s b with k | k
        · exact Or.inl (hm.trans k)
        · exact Or.inr (List.mem_cons.2 (Or.inl (hm.trans k)))
      · exact Or.inr (List.mem_cons_of_mem _ hm)
    · rcases List.mem_cons.1 hp with rfl | hp
      · exact hs.trans rank g2
      · exact hL p hp

/-- Such a fold over the pairs of `v`'s values and places, started at the least value and a place ranked first, ends at
    the first greatest place. -/
theorem fold_finds {n : ℕ} (v : Fin (n + 1) → EReal) (place : Fin (n + 1) → W) (hrank : ∀ k, rank (place k) = (k.val : ℤ))
    (step : EReal × W → EReal × W → EReal × W)
    (keeps : ∀ a b, step a b = a ∨ step a b = b)
    (good : ∀ a b, AtLeast rank (step a b) a ∧ AtLeast rank (step a b) b)
    (L : List (EReal × W)) (hL : ∀ p, p ∈ L ↔ ∃ k, p = (v k, place k)) :
    ∃ j, IsFirstMax v j ∧ (L.foldl step (⊥, place 0)).2 = place j := by
  obtain ⟨hm, -, hb⟩ := fold_best rank step keeps good L (⊥, place 0)
  generalize L.foldl step (⊥, place 0) = s at hm hb ⊢
  have all : ∀ k, AtLeast rank s (v k, place k) := fun k => hb _ ((hL _).2 ⟨k, rfl⟩)
  have key : ∃ j, s = (v j, place j) := by
    rcases hm with rfl | hm
    · refine ⟨0, ?_⟩
      rcases all 0 with h | ⟨h, -⟩
      · exact absurd h not_lt_bot
      · exact Prod.ext h rfl
    · exact (hL _).1 hm
  obtain ⟨j, rfl⟩ := key
  refine ⟨j, ⟨fun k => ?_, fun k hk => ?_⟩, rfl⟩
  · rcases all k with h | ⟨h, -⟩
    · exact h.le
    · exact h.ge
  · rcases all k with h | ⟨-, h⟩
    · exact h
    · simp only [hrank, Nat.cast_le] at h
      exact absurd hk (not_lt.2 h)

end Cert.FirstMax
-- ==== Proof.Bits.lean ====
/-
  Tests on small words and the numbers made from them: a comparison's bit, widened and read as a number, is one or
  zero, and class numbers below 64 are told apart and ordered as words as they are as numbers.
-/
module

public import Idealize.ShloMosaic.PureOps.Ideal

@[expose] public section

noncomputable section

namespace Cert.Bits

open Idealize.ShloMosaic

/-- A test's bit, widened and read as a number. -/
theorem number_of_bit (φ : FTy) (p : Bool) :
    (FloatOps.sitofp φ (BitVec.setWidth 32 (BitVec.ofBool p)) : Ideal φ) = if p = true then (1 : EReal) else 0 := by
  show (((BitVec.setWidth 32 (BitVec.ofBool p)).toInt : ℝ) : EReal) = _
  cases p
  · simp
  · have e : (BitVec.setWidth 32 (BitVec.ofBool true)).toInt = 1 := by decide
    rw [e]
    simp

theorem ofNat_inj {x y : ℕ} (hx : x < 64) (hy : y < 64) : BitVec.ofNat 32 x = BitVec.ofNat 32 y ↔ x = y := by
  constructor
  · intro h
    have := congrArg BitVec.toNat h
    simp only [BitVec.toNat_ofNat] at this
    omega
  · rintro rfl; rfl

theorem ofNat_slt {x y : ℕ} (hx : x < 64) (hy : y < 64) : (BitVec.ofNat 32 x).slt (BitVec.ofNat 32 y) = decide (x < y) := by
  have e (n : ℕ) (hn : n < 64) : (BitVec.ofNat 32 n).toInt = n := by
    rw [BitVec.toInt_ofNat']
    exact Int.bmod_eq_of_le (by omega) (by omega)
  unfold BitVec.slt
  rw [e x hx, e y hy]
  simp

/-- The number made from testing two class numbers for equality. -/
theorem number_of_eq (φ : FTy) (x y : Fin 64) :
    (FloatOps.sitofp φ (BitVec.setWidth 32 (IntOp.cmpi .eq (BitVec.ofNat 32 x.val) (BitVec.ofNat 32 y.val))) : Ideal φ)
      = if x = y then (1 : EReal) else 0 := by
  rw [IntOp.cmpi, number_of_bit]
  refine if_congr ?_ rfl rfl
  rw [beq_iff_eq, ofNat_inj x.isLt y.isLt, Fin.ext_iff]

/-- The number made from testing one class number to be below another. -/
theorem number_of_lt (φ : FTy) (x y : Fin 64) :
    (FloatOps.sitofp φ (BitVec.setWidth 32 (IntOp.cmpi .slt (BitVec.ofNat 32 x.val) (BitVec.ofNat 32 y.val))) : Ideal φ)
      = if x < y then (1 : EReal) else 0 := by
  rw [IntOp.cmpi, number_of_bit]
  refine if_congr ?_ rfl rfl
  rw [ofNat_slt x.isLt y.isLt, decide_eq_true_iff, Fin.lt_def]

/-- A choice made by a test's bit. -/
theorem select_bit {α : Type} (p : Bool) (a b : α) : Scalar.select (BitVec.ofBool p) a b = if p = true then a else b := by
  cases p <;> rfl

/-- A choice made by testing two class numbers for equality. -/
theorem select_of_eq {α : Type} (x y : Fin 64) (a b : α) :
    Scalar.select (IntOp.cmpi .eq (BitVec.ofNat 32 x.val) (BitVec.ofNat 32 y.val)) a b = if x = y then a else b := by
  rw [IntOp.cmpi, select_bit]
  refine if_congr ?_ rfl rfl
  rw [beq_iff_eq, ofNat_inj x.isLt y.isLt, Fin.ext_iff]

end Cert.Bits

end
-- ==== Proof.Block.lean ====
/-
  What one grid point computes: it adds to entry (b, a) of the table the number of the block's rows whose target is b
  and whose first greatest weighted score is at class a.
-/
module

public import proofs.«01_k».proof.Proof.Gen.KernelIdeal.Skeleton
public import proofs.«01_k».proof.Proof.FirstMax
public import proofs.«01_k».proof.Proof.Bits
public import Idealize.ShloMosaic.Lib.Pipeline.ValueKit
public import Idealize.ShloMosaic.Lib.Pointwise

@[expose] public section

noncomputable section

namespace Cert.KernelIdeal.Block

open Cert.KernelIdeal Cert.KernelIdeal.Gen Cert.FirstMax
open Idealize.ShloMosaic

/-- The word the row maximum starts from is the least extended real. -/
theorem least : Ideal.ofBits .f32 0xFF800000#32 = ⊥ := by simp [Ideal.ofBits, Ideal.ieee]

/-- Class `a` is a row's first greatest one when its score is the row's maximum and no earlier class's score is. -/
theorem isFirstMax_iff (v : Fin 64 → EReal) (a : Fin 64) :
    IsFirstMax v a ↔ v a = Finset.univ.fold max ⊥ v ∧ ∀ k, k < a → v k ≠ Finset.univ.fold max ⊥ v := by
  have le (k : Fin 64) : v k ≤ Finset.univ.fold max ⊥ v := Finset.le_fold_max (v k) |>.2 (Or.inr ⟨k, Finset.mem_univ k, le_rfl⟩)
  constructor
  · rintro ⟨h, h'⟩
    have e : v a = Finset.univ.fold max ⊥ v :=
      (le a).antisymm ((Finset.fold_max_le (v a)).2 ⟨bot_le, fun k _ => h k⟩)
    exact ⟨e, fun k hk => e ▸ (h' k hk).ne⟩
  · rintro ⟨e, h⟩
    exact ⟨fun k => e ▸ le k, fun k hk => e ▸ lt_of_le_of_ne (le k) (h k hk)⟩

/-- The number of maximal classes before `a` is zero exactly when there is none. -/
theorem none_before (p : Fin 64 → Prop) [DecidablePred p] (a : Fin 64) :
    (∑ k, (if p k then (1 : EReal) else 0) * (if k < a then 1 else 0)) = 0 ↔ ∀ k, k < a → ¬ p k := by
  rw [Finset.sum_eq_zero_iff_of_nonneg]
  · refine ⟨fun h k hk hp => ?_, fun h k _ => ?_⟩
    · have := h k (Finset.mem_univ k)
      rw [if_pos hp, if_pos hk, mul_one] at this
      exact one_ne_zero this
    · by_cases hk : k < a
      · rw [if_neg (h k hk), zero_mul]
      · rw [if_neg hk, mul_zero]
  · intro k _
    split <;> split <;> simp

open Classical in
/-- The kernel's one-hot of a row at class `a`: the mark of a maximal class, kept if no earlier class has one. -/
theorem oneHot (v : Fin 64 → EReal) (M : EReal) (hM : M = Finset.univ.fold max ⊥ v) (a : Fin 64) :
    (if (∑ k, (if v k = M then (1 : EReal) else 0) * (if k < a then 1 else 0)) = 0 then (if v a = M then (1 : EReal) else 0) else 0)
      = if IsFirstMax v a then 1 else 0 := by
  subst hM
  rw [← ite_and]
  refine if_congr ?_ rfl rfl
  rw [none_before, isFirstMax_iff]
  exact and_comm

open Classical in
/-- The table after a point, read at (b, a): what it was plus the count of the block's rows. -/
theorem block_apply (x : FVec Ideal S20000x64 .f32) (w : FVec Ideal S1x64 .f32) (t : IVec S1x1x20000 32)
    (T : FVec Ideal S64x64 .f32) (b a : Fin 64) :
    k0_pay4 (F := Ideal) x w t T (ix2 b a)
      = T (ix2 b a) + ∑ r : Fin 20000,
          if t (ix3 0 0 r) = BitVec.ofNat 32 b.val ∧ IsFirstMax (fun k => x (ix2 r k) * w (ix2 0 k)) a then (1 : EReal) else 0 := by
  pointwise [k0_pay4]
  refine congrArg (T (ix2 b a) + ·) (Finset.sum_congr rfl fun r _ => ?_)
  simp only [IntOp.cmpi, Bits.number_of_bit, Bits.number_of_lt, decide_eq_true_eq, least, beq_iff_eq]
  simp only [fun k : Fin 64 => Bits.ofNat_slt k.isLt a.isLt, decide_eq_true_eq]
  have h := oneHot (fun k => x (ix2 r k) * w (ix2 0 k)) _ rfl a
  rw [ite_and, ← h, ite_mul, one_mul, zero_mul]
  refine if_congr eq_comm ?_ rfl
  rfl

end Cert.KernelIdeal.Block

end
-- ==== Proof.Rows.lean ====
/-
  The finished table in terms of the kernel's arguments: at (b, a) the number of the rows whose target is b and whose
  first greatest weighted score is at class a.
-/
module

public import proofs.«01_k».proof.Proof.Accumulate
public import proofs.«01_k».proof.Proof.Block
public import Idealize.ShloMosaic.Lib.Claim

@[expose] public section

noncomputable section

namespace Cert.KernelIdeal.Rows

open Cert.KernelIdeal Cert.KernelIdeal.Gen Cert.KernelIdeal.Accumulate Cert.FirstMax
open Idealize.ShloMosaic Idealize.ShloMosaic.TcCoe Idealize.SL.Sem

variable (m : (ℓ : Loc nD τ sig) → Buf (Elt Ideal) ℓ) (c : Dev nD)

/-- The index maps: the scores and the targets move one block per point, the weights stay. -/
theorem idx : ∀ t : Fin cfg0.N, (win0_0.index t = ![t.val, 0] ∧ win0_1.index t = ![0, 0] ∧ win0_2.index t = ![t.val, 0, 0]) := by
  decide +kernel

/-- Row `r` of the scores' block `t` is row `20000 t + r` of the scores. -/
theorem scores_read (t : Fin cfg0.N) (r : Fin 20000) (k : Fin 64) (h : t.val * 20000 + r.val < 1000000) :
    (iblk m c 0 t : Vec Ideal S20000x64 .f32) (ix2 r k)
      = (m ((c.tc : Thread nD τ).loc main_arg0) : Vec Ideal S1000000x64 .f32) (ix2 ⟨t.val * 20000 + r.val, h⟩ k) := by
  blk_ext [iblk, V, (idx t).1]

/-- Before the launch the weights are laid out as one row … -/
theorem weights_entry : V m c main_v0 = shapeCast S1x64 (m ((c.tc : Thread nD τ).loc main_arg2)) shapeCasts_S64_S1x64 := rfl

/-- … and the targets as one row per block. -/
theorem targets_entry :
    V m c main_v1 = shapeCast S50x1x20000 (m ((c.tc : Thread nD τ).loc main_arg1)) shapeCasts_S1000000x1_S50x1x20000 := rfl

/-- The weights' block is the weights. -/
theorem weights_read (t : Fin cfg0.N) (k : Fin 64) :
    (iblk m c 1 t : Vec Ideal S1x64 .f32) (ix2 0 k)
      = (m ((c.tc : Thread nD τ).loc main_arg2) : Vec Ideal S64 .f32) (ix1 k) := by
  have e : (iblk m c 1 t : Vec Ideal S1x64 .f32) (ix2 0 k) = (V m c main_v0 : Vec Ideal S1x64 .f32) (ix2 0 k) := by
    blk_ext [iblk, (idx t).2.1]
  rw [e, weights_entry]
  pointwise

/-- Entry `r` of block `q` of the targets laid out by blocks is entry `20000 q + r` of the targets. -/
theorem rows_of_blocks (x : IVec S1000000x1 32) (q : Fin 50) (r : Fin 20000) (h : q.val * 20000 + r.val < 1000000) :
    shapeCast S50x1x20000 x shapeCasts_S1000000x1_S50x1x20000 (ix3 q 0 r) = x (ix2 ⟨q.val * 20000 + r.val, h⟩ 0) := by
  refine shapeCast_apply _ _ _ _ ?_
  rw [Shape.rowMajor_val_two, Shape.rowMajor_val_three]
  show (q.val * 20000 + r.val) * 1 + 0 = (q.val * 1 + 0) * 20000 + r.val
  omega

/-- Entry `r` of the targets' block `t` is the target of row `20000 t + r`. -/
theorem targets_read (t : Fin cfg0.N) (r : Fin 20000) (h : t.val * 20000 + r.val < 1000000) :
    (iblk m c 2 t : Vec Ideal S1x1x20000 .i32) (ix3 0 0 r)
      = (m ((c.tc : Thread nD τ).loc main_arg1) : Vec Ideal S1000000x1 .i32) (ix2 ⟨t.val * 20000 + r.val, h⟩ 0) := by
  have e : (iblk m c 2 t : Vec Ideal S1x1x20000 .i32) (ix3 0 0 r)
      = (V m c main_v1 : Vec Ideal S50x1x20000 .i32) (ix3 (t.cast N_0) 0 r) := by
    blk_ext [iblk, (idx t).2.2]
    exact Nat.add_zero _
  rw [e, targets_entry]
  exact rows_of_blocks _ (t.cast N_0) r h

/-- What row `R` adds to the table at (b, a): one, if its target is `b` and its first greatest weighted score is at `a`. -/
def hit (x : FVec Ideal S1000000x64 .f32) (t : IVec S1000000x1 32) (w : FVec Ideal S64 .f32) (b a : Fin 64) (R : Fin 1000000) : EReal :=
  open Classical in
  if t (ix2 R 0) = BitVec.ofNat 32 b.val ∧ IsFirstMax (fun k : Fin 64 => x (ix2 R k) * w (ix1 k)) a then 1 else 0

/-- `hit` at the kernel's arguments. -/
abbrev hits (b a : Fin 64) (R : Fin 1000000) : EReal :=
  hit (m ((c.tc : Thread nD τ).loc main_arg0)) (m ((c.tc : Thread nD τ).loc main_arg1)) (m ((c.tc : Thread nD τ).loc main_arg2)) b a R

/-- Row `r` of block `n` is a row of the scores. -/
theorem row_lt {n : ℕ} (h : n < 50) (r : Fin 20000) : n * 20000 + r.val < 1000000 := by omega

open Classical in
/-- One point adds the hits of its own rows. -/
theorem point_apply (n : ℕ) (h : n < cfg0.N) (h' : n < 50) (T : FVec Ideal S64x64 .f32) (b a : Fin 64) :
    k0_pay4 (F := Ideal) (iblk m c 0 ⟨n, h⟩) (iblk m c 1 ⟨n, h⟩) (iblk m c 2 ⟨n, h⟩) T (ix2 b a)
      = T (ix2 b a) + ∑ r : Fin 20000, hits m c b a ⟨n * 20000 + r.val, row_lt h' r⟩ := by
  refine (Block.block_apply (iblk m c 0 ⟨n, h⟩) (iblk m c 1 ⟨n, h⟩) (iblk m c 2 ⟨n, h⟩) T b a).trans ?_
  refine congrArg (T (ix2 b a) + ·) (Finset.sum_congr rfl fun r _ => ?_)
  unfold hits hit
  refine if_congr (and_congr (Eq.congr_left (targets_read m c ⟨n, h⟩ r (row_lt h' r))) (iff_of_eq ?_)) rfl rfl
  refine congrArg (fun v => IsFirstMax v a) (funext fun k => ?_)
  exact congrArg₂ (· * ·) (scores_read m c ⟨n, h⟩ r k (row_lt h' r)) (weights_read m c ⟨n, h⟩ k)

/-- The cleared table is zero. -/
theorem cleared (b a : Fin 64) : k0_pay2 (F := Ideal) (ix2 b a) = (0 : EReal) := by
  pointwise [k0_pay2]

/-- The table after point `n` counts the hits of blocks `0 … n`. -/
theorem table_apply (b a : Fin 64) : ∀ (n : ℕ) (h : n < cfg0.N) (h' : n < 50), table m c n h (ix2 b a)
      = ∑ s : Fin (n + 1), ∑ r : Fin 20000, hits m c b a ⟨s.val * 20000 + r.val, row_lt (by omega) r⟩
  | 0, h, h' => by
    rw [Fin.sum_univ_one]
    refine (point_apply m c 0 h h' _ b a).trans ?_
    rw [cleared, zero_add]
    rfl
  | n + 1, h, h' => by
    rw [Fin.sum_univ_castSucc]
    refine (point_apply m c (n + 1) h h' _ b a).trans ?_
    exact congrArg₂ (· + ·) (table_apply b a n _ (by omega)) rfl

/-- The finished table counts the hits of all rows. -/
theorem finalTable_apply (b a : Fin 64) : finalTable m c (ix2 b a) = ∑ R : Fin 1000000, hits m c b a R :=
  (table_apply m c b a 49 _ (by decide)).trans (Fin.sum_mul_add_fin 50 20000 (hits m c b a) (by norm_num))

end Cert.KernelIdeal.Rows

end
-- ==== Proof.Loss.lean ====
/-
  The loss of a table of counts, over the extended reals: minus the mean over the classes of the F1 score.
  Entry (a, b) of the table counts the rows predicted a whose target is b.
-/
module

public import Idealize.ShloMosaic.PureOps.Ideal

@[expose] public section

noncomputable section

namespace Cert.Loss

open Idealize.ShloMosaic

/-- The share of the rows with target `k` that are predicted `k`. -/
def precision (C : Fin 64 → Fin 64 → EReal) (k : Fin 64) : EReal := Ideal.div (C k k) (∑ a, C a k)

/-- The share of the rows predicted `k` whose target is `k`. -/
def recall (C : Fin 64 → Fin 64 → EReal) (k : Fin 64) : EReal := Ideal.div (C k k) (∑ b, C k b)

/-- The F1 score of class `k` (the word is the number two). -/
def score (C : Fin 64 → Fin 64 → EReal) (k : Fin 64) : EReal :=
  Ideal.div (Ideal.ofBits .f32 0x40000000#32 * precision C k * recall C k) (precision C k + recall C k)

/-- Minus the mean score (the word is the number of classes). -/
def loss (C : Fin 64 → Fin 64 → EReal) : EReal := -Ideal.div (∑ k, score C k) (Ideal.ofBits .f32 0x42800000#32)

/-- The number of classes is not zero. -/
theorem classes_ne_zero : Ideal.ofBits .f32 0x42800000#32 ≠ 0 := by
  have h : Ideal.ofBits .f32 0x42800000#32 = ((64 : ℝ) : EReal) := by
    simp [Ideal.ofBits, Ideal.ieee, -EReal.coe_mul]; norm_num
  rw [h]
  exact_mod_cast (by norm_num : (64 : ℝ) ≠ 0)

/-- Negating before a division by a number that is not zero, or after it, is the same. -/
theorem div_neg {x y : EReal} (hy : y ≠ 0) : Ideal.div (0 - x) y = -Ideal.div x y := by
  unfold Ideal.div
  rw [if_neg hy, if_neg hy, zero_sub, EReal.neg_mul]

end Cert.Loss

end
-- ==== Proof.KernelLoss.lean ====
/-
  The kernel's last step, the loss of its finished table, is the loss over the extended reals.
-/
module

public import proofs.«01_k».proof.Proof.Gen.KernelIdeal.Skeleton
public import proofs.«01_k».proof.Proof.Loss
public import proofs.«01_k».proof.Proof.Bits
public import Idealize.ShloMosaic.Lib.Pipeline.ValueKit
public import Idealize.ShloMosaic.Lib.Pointwise

@[expose] public section

noncomputable section

namespace Cert.KernelIdeal.KernelLoss

open Cert.KernelIdeal Cert.KernelIdeal.Gen
open Idealize.ShloMosaic

theorem loss_eq (T : FVec Ideal S64x64 .f32) (i : S1x1.Idx) :
    k0_pay1 (F := Ideal) T i = Loss.loss (fun a b => T (ix2 b a)) := by
  unfold Loss.loss Loss.score Loss.precision Loss.recall
  pointwise [k0_pay1]
  simp only [Bits.number_of_eq, Bits.select_of_eq]
  rw [Loss.div_neg Loss.classes_ne_zero]
  simp only [mul_ite, mul_one, mul_zero, Finset.sum_ite_eq, Finset.sum_ite_eq', Finset.mem_univ, if_true]

end Cert.KernelIdeal.KernelLoss

end
-- ==== Proof.RefLoss.lean ====
/-
  The reference's loss of a table of counts is the loss over the extended reals.
-/
module

public import proofs.«01_k».proof.Proof.RefRun
public import proofs.«01_k».proof.Proof.Loss
public import Idealize.ShloMosaic.Lib.Pipeline.ValueKit
public import Idealize.ShloMosaic.Lib.Pointwise
public import Idealize.ShloMosaic.Lib.Routing.OpsPair

@[expose] public section

noncomputable section

namespace Cert.ReferenceIdeal.RefLoss

open Cert.ReferenceIdeal Cert.ReferenceIdeal.Gen
open Idealize.ShloMosaic

/-- A class number read as an index is itself. -/
theorem classes_apply (k : Fin 64) : RefRun.classes (ix1 k) = BitVec.ofNat 32 k.val := by
  refine Routing.wrap_of_lt (BitVec.ofNat 32 k.val) (BitVec.ofNat 32 k.val + 64#32) ?_
  have := k.isLt
  rw [BitVec.toNat_ofNat]
  omega

/-- Both columns of the class pairs are the class numbers. -/
theorem classPairs_apply (k : Fin 64) (q : Fin 2) : RefRun.classPairs (ix2 k q) = BitVec.ofNat 32 k.val := by
  rw [← classes_apply]
  unfold RefRun.classPairs
  fin_cases q <;> pointwise

/-- The gathered diagonal is the diagonal. -/
theorem diagonal_apply (cm : FVec Ideal S64x64 .f32) (k : Fin 64) : RefRun.diagonal cm (ix1 k) = cm (ix2 k k) := by
  unfold RefRun.diagonal Host.gather
  refine congrArg cm (funext fun a => Fin.ext ?_)
  have h : a ∈ gather_S64x64_S64x2_S64_n_01_n_n_01_1_11.startIndexMap := by revert a; decide
  have start : gather_S64x64_S64x2_S64_n_01_n_n_01_1_11.start (ix1 k) RefRun.classPairs a = k.val := by
    unfold GatherDims.start
    rw [dif_pos h]
    have e (x : S64x2.Idx) (hx : x 0 = k) : RefRun.classPairs x = BitVec.ofNat 32 k.val := by
      rw [eq_ix2 x, hx]
      exact classPairs_apply k _
    have w : (BitVec.ofNat 32 k.val).toInt = k.val := by
      have := k.isLt
      rw [BitVec.toInt_ofNat']
      exact Int.bmod_eq_of_le (by omega) (by omega)
    rw [e _ rfl, w]
    have := k.isLt
    fin_cases a
    · show min k.val 63 = k.val
      omega
    · show min k.val 63 = k.val
      omega
  have off : gather_S64x64_S64x2_S64_n_01_n_n_01_1_11.offCoord (ix1 k) a = 0 :=
    GatherDims.offCoord_eq_zero _ _ _ (by clear start h; revert a; decide)
  have batch : gather_S64x64_S64x2_S64_n_01_n_n_01_1_11.batchCoord (ix1 k) a = 0 :=
    GatherDims.batchCoord_eq_zero _ _ _ (by clear off start h; revert a; decide)
  show _ + _ + _ = _
  rw [start, off, batch]
  fin_cases a <;> rfl

theorem precision_apply (cm : FVec Ideal S64x64 .f32) (k : Fin 64) :
    RefRun.precision cm (ix1 k) = Loss.precision (fun a b => cm (ix2 a b)) k := by
  unfold RefRun.precision Loss.precision
  pointwise
  rw [diagonal_apply]

theorem recall_apply (cm : FVec Ideal S64x64 .f32) (k : Fin 64) :
    RefRun.recall cm (ix1 k) = Loss.recall (fun a b => cm (ix2 a b)) k := by
  unfold RefRun.recall Loss.recall
  pointwise
  rw [diagonal_apply]

theorem loss_eq (cm : FVec Ideal S64x64 .f32) (i : S_.Idx) :
    RefRun.loss cm i = Loss.loss (fun a b => cm (ix2 a b)) := by
  unfold RefRun.loss Loss.loss RefRun.scores Loss.score
  pointwise
  simp only [precision_apply, recall_apply]

end Cert.ReferenceIdeal.RefLoss

end
-- ==== Proof.RefArgmax.lean ====
/-
  What the reference's `argmax` is, read at a row: the number of the first class whose weighted score is greatest.
-/
module

public import proofs.«01_k».proof.Proof.RefRun
public import proofs.«01_k».proof.Proof.FirstMax
public import Idealize.ShloMosaic.Lib.Pipeline.ValueKit

@[expose] public section

noncomputable section

namespace Cert.ReferenceIdeal.RefArgmax

open Cert.ReferenceIdeal Cert.ReferenceIdeal.Gen Cert.ReferenceIdeal.RefRun Cert.FirstMax
open Idealize.ShloMosaic

/-- The reduction's body keeps its first pair when that has the greater value, or the same one at an earlier place. -/
theorem reducer_eq (a b : EReal × BitVec 32) :
    reducer_argmax_f32_i32 (F := Ideal) a b = if b.1 < a.1 ∨ (a.1 = b.1 ∧ a.2.slt b.2 = true) then a else b := by
  obtain ⟨x, i⟩ := a
  obtain ⟨y, j⟩ := b
  simp only [reducer_argmax_f32_i32, Ideal.cmpf_def, Ideal.cmp, IntOp.cmpi, IntOp.ori, IntOp.andi, Scalar.select]
  by_cases h : y < x
  · have one : ∀ q : BitVec 1, 1#1 ||| q = 1#1 := by decide
    simp [h, one]
  · by_cases e : x = y
    · subst e
      by_cases l : i.slt j = true <;> simp [l]
    · simp [h, e]

theorem reducer_keeps (a b : EReal × BitVec 32) :
    reducer_argmax_f32_i32 (F := Ideal) a b = a ∨ reducer_argmax_f32_i32 (F := Ideal) a b = b := by
  rw [reducer_eq]; split <;> simp

/-- What it keeps is at least as good as both. -/
theorem reducer_good (a b : EReal × BitVec 32) :
    AtLeast BitVec.toInt (reducer_argmax_f32_i32 (F := Ideal) a b) a
      ∧ AtLeast BitVec.toInt (reducer_argmax_f32_i32 (F := Ideal) a b) b := by
  rw [reducer_eq]
  split
  · next h =>
    refine ⟨AtLeast.refl _ a, ?_⟩
    rcases h with h | ⟨h, l⟩
    · exact Or.inl h
    · exact Or.inr ⟨h, (BitVec.slt_iff_toInt_lt.1 l).le⟩
  · next h =>
    refine ⟨?_, AtLeast.refl _ b⟩
    rw [not_or, not_and, not_lt] at h
    rcases h.1.lt_or_eq with l | e
    · exact Or.inl l
    · refine Or.inr ⟨e.symm, ?_⟩
      have n := h.2 e
      rw [BitVec.slt_iff_toInt_lt] at n
      exact not_lt.1 n

/-- The pairs that the reduction folds over at row `r`: the row's scores with their class numbers. -/
theorem mem_row (v : FVec Ideal S1000000x64 .f32) (r : Fin 1000000) (p : EReal × BitVec 32) :
    p ∈ Host.argReduceFiber v (iotaInDim S1000000x64 32 1) reducesTo_S1000000x64_S1000000_d1 (ix1 r)
      ↔ ∃ k : Fin 64, p = (v (ix2 r k), BitVec.ofNat 32 k.val) := by
  have drop (i : S1000000x64.Idx) :
      (reducesTo_S1000000x64_S1000000_d1.drop i = ix1 r) ↔ (i 0 : Fin 1000000) = r := by
    have e : (reducesTo_S1000000x64_S1000000_d1.drop i 0 : ℕ) = (i 0 : ℕ) := Shape.ReducesTo.drop_apply_val _ i 0
    constructor
    · intro h
      exact Fin.ext (e.symm.trans (congrArg Fin.val (congrFun h 0)))
    · intro h
      funext b
      match b with
      | ⟨0, _⟩ => exact Fin.ext (e.trans (congrArg Fin.val h))
  simp only [Host.argReduceFiber, List.mem_map, List.mem_filter, List.mem_finRange, true_and, decide_eq_true_eq, drop]
  constructor
  · rintro ⟨n, h, rfl⟩
    refine ⟨S1000000x64.rowMajor.symm n 1, ?_⟩
    rw [← h]
    exact congrArg (fun i => (v i, iotaInDim S1000000x64 32 1 (S1000000x64.rowMajor.symm n))) (eq_ix2 _)
  · rintro ⟨k, rfl⟩
    exact ⟨S1000000x64.rowMajor (ix2 r k), by rw [Equiv.symm_apply_apply]; rfl, by rw [Equiv.symm_apply_apply]; rfl⟩

/-- At the extended reals the places that the reduction returns are its folds' over the rows' pairs. -/
theorem places_argReduce {s t u : Shape} {axes : List (Fin s.rank)} {β : Type} (f : Ideal .f32 × β → Ideal .f32 × β → Ideal .f32 × β)
    (x : FVec Ideal s .f32) (y : s.Idx → β) (ix : u.Idx → Ideal .f32) (iy : u.Idx → β) (h : s.ReducesTo axes t)
    (hu : 0 < u.numel) (j : t.Idx) :
    places (Host.argReduce f x y ix iy h hu) j
      = ((Host.argReduceFiber x y h j).foldl f (ix (Shape.Idx.first hu), iy (Shape.Idx.first hu))).2 := by
  rw [Ideal.argReduce_eq_reduce2]
  unfold places
  rw [Host.reduce2_eq_foldl_fiber]

/-- The initial value is the least extended real. -/
theorem least : (constant (F := Ideal) S_ .f32 0xFF800000#32) (Shape.Idx.first h_S_) = (⊥ : EReal) := by
  show Ideal.ofBits .f32 0xFF800000#32 = ⊥
  simp [Ideal.ofBits, Ideal.ieee]

/-- The prediction at row `r` is the first class whose score is greatest there. -/
theorem pred_eq (v : FVec Ideal S1000000x64 .f32) (r : Fin 1000000) :
    ∃ j : Fin 64, IsFirstMax (fun k : Fin 64 => v (ix2 r k)) j ∧ pred v (ix1 r) = BitVec.ofNat 32 j.val := by
  obtain ⟨j, hj, e⟩ := fold_finds BitVec.toInt (n := 63) (fun k => v (ix2 r k)) (fun k => BitVec.ofNat 32 k.val)
    (fun k => by
      have := k.isLt
      rw [BitVec.toInt_ofNat']
      exact Int.bmod_eq_of_le (by omega) (by omega))
    (reducer_argmax_f32_i32 (F := Ideal)) reducer_keeps reducer_good _ (mem_row v r)
  refine ⟨j, hj, ?_⟩
  unfold pred
  rw [places_argReduce, least]
  exact e

end Cert.ReferenceIdeal.RefArgmax

end
-- ==== Proof.RefCounts.lean ====
/-
  What the reference's table of counts holds: at (a, b) the number of rows whose prediction is a and whose target is b.
-/
module

public import proofs.«01_k».proof.Proof.RefRun
public import Idealize.ShloMosaic.Lib.Pipeline.ValueKit
public import Idealize.ShloMosaic.Lib.Pointwise
public import Idealize.ShloMosaic.Lib.IdealHost
public import Idealize.ShloMosaic.Lib.Routing.OpsPair

@[expose] public section

noncomputable section

namespace Cert.ReferenceIdeal.RefCounts

open Cert.ReferenceIdeal Cert.ReferenceIdeal.Gen Cert.ReferenceIdeal.RefRun
open Idealize.ShloMosaic

/-- An index that is not negative is read as it is. -/
theorem wrapRows_apply (p : IVec S1000000 32) (r : Fin 1000000) (h : (p (ix1 r)).toNat < 2 ^ 31) :
    wrapRows p (ix1 r) = p (ix1 r) :=
  Routing.wrap_of_lt (p (ix1 r)) (p (ix1 r) + 64#32) h

/-- A row of the pairs: the prediction … -/
theorem pairs_0 (p t : IVec S1000000 32) (r : Fin 1000000) : pairs p t (ix2 r 0) = wrapRows p (ix1 r) := by
  unfold pairs
  pointwise

/-- … and the target. -/
theorem pairs_1 (p t : IVec S1000000 32) (r : Fin 1000000) : pairs p t (ix2 r 1) = wrapRows t (ix1 r) := by
  unfold pairs
  pointwise

/-- Update `r` of the scatter lands at (a, b) exactly when its two index words, read signed, are `a` and `b`. -/
theorem lands (idx : IVec S1000000x2 32) (r : Fin 1000000) (a b : Fin 64) :
    scatter_S64x64_S1000000x2_S1000000_n_01_01_1.resultIdx? (ix1 r) idx = some (ix2 a b)
      ↔ (idx (ix2 r 0)).toInt = a.val ∧ (idx (ix2 r 1)).toInt = b.val := by
  have start (q : Fin 2) : scatter_S64x64_S1000000x2_S1000000_n_01_01_1.start (ix1 r) idx q = (idx (ix2 r q)).toInt := by
    have hq : q ∈ scatter_S64x64_S1000000x2_S1000000_n_01_01_1.scatterDimsToOperandDims := by
      revert q; decide
    unfold ScatterDims.start
    rw [dif_pos hq]
    refine congrArg (fun i => (idx i).toInt) (funext fun x => ?_)
    fin_cases q <;> fin_cases x <;> rfl
  have window (q : Fin 2) : scatter_S64x64_S1000000x2_S1000000_n_01_01_1.window (ix1 r) q = 0 := by
    fin_cases q <;> rfl
  rw [Routing.resultIdx?_eq_some]
  constructor
  · intro h
    have h0 := h 0
    have h1 := h 1
    rw [start, window] at h0 h1
    exact ⟨by simpa using h0, by simpa using h1⟩
  · rintro ⟨h0, h1⟩ q
    rw [start, window]
    fin_cases q
    · simpa using h0
    · simpa using h1

/-- At the extended reals a scatter that adds is the operand plus the sum of the updates that land. -/
theorem scatterAdd_apply {s si su : Shape} (d : ScatterDims s si su) (x : FVec Ideal s .f32) (idx : IVec si 32)
    (u : FVec Ideal su .f32) (i : s.Idx) :
    Host.scatterAdd d x idx u i = x i + ∑ j, if d.resultIdx? j idx = some i then u j else 0 :=
  congrArg (x i + ·) (Finset.sum_filter _ _)

/-- The table of counts read at (a, b), for predictions and targets that are not negative. -/
theorem counts_apply (p t : IVec S1000000 32) (hp : ∀ r : Fin 1000000, (p (ix1 r)).toNat < 2 ^ 31)
    (ht : ∀ r : Fin 1000000, (t (ix1 r)).toNat < 2 ^ 31) (a b : Fin 64) :
    counts (F := Ideal) p t (ix2 a b)
      = ∑ r : Fin 1000000, if (p (ix1 r)).toInt = a.val ∧ (t (ix1 r)).toInt = b.val then (1 : EReal) else 0 := by
  have zero : broadcastInDim S64x64 ![] bcast_S_S64x64 (constant (F := Ideal) S_ .f32 0x00000000#32) (ix2 a b) = (0 : EReal) := by
    pointwise
  have one (r : Fin 1000000) :
      broadcastInDim S1000000 ![] bcast_S_S1000000 (constant (F := Ideal) S_ .f32 0x3F800000#32) (ix1 r) = (1 : EReal) := Ideal.ofBits_one_f32
  unfold counts
  rw [scatterAdd_apply, zero, zero_add, sum_idx1]
  refine Finset.sum_congr rfl fun r _ => ?_
  rw [one]
  refine if_congr ?_ rfl rfl
  rw [lands, pairs_0, pairs_1, wrapRows_apply p r (hp r), wrapRows_apply t r (ht r)]

end Cert.ReferenceIdeal.RefCounts

end
-- ==== Proof.Equation.lean ====
/-
  The equation: with no negative target, the kernel's finished table is the reference's table of counts transposed,
  and both losses are the same expression of it.
-/
module

public import proofs.«01_k».proof.Proof.Rows
public import proofs.«01_k».proof.Proof.KernelLoss
public import proofs.«01_k».proof.Proof.RefLoss
public import proofs.«01_k».proof.Proof.RefArgmax
public import proofs.«01_k».proof.Proof.RefCounts

@[expose] public section

noncomputable section

namespace Cert.Equation

open Cert.ReferenceIdeal Cert.ReferenceIdeal.Gen Cert.ReferenceIdeal.RefRun Cert.FirstMax Cert.KernelIdeal.Rows
open Idealize.ShloMosaic Idealize.ShloMosaic.TcCoe Idealize.SL.Sem

/-- The reference's weighted scores. -/
theorem weighted_apply (x : FVec Ideal S1000000x64 .f32) (w : FVec Ideal S64 .f32) (r : Fin 1000000) (k : Fin 64) :
    weighted x w (ix2 r k) = w (ix1 k) * x (ix2 r k) := by
  unfold weighted
  pointwise

/-- The reference's targets are the argument's only column. -/
theorem targets_apply (t : IVec S1000000x1 32) (r : Fin 1000000) : targets t (ix1 r) = t (ix2 r 0) := by
  unfold targets
  refine shapeCast_apply _ _ _ _ ?_
  rw [Shape.rowMajor_val_two, Shape.rowMajor_val_one]
  show r.val * 1 + 0 = r.val
  omega

/-- A class number read back as a signed integer. -/
theorem toInt_class (b : Fin 64) : (BitVec.ofNat 32 b.val).toInt = b.val :=
  StableHlo.Predicate.toInt_ofNat_small b.val (by omega)

/-- A word reads as the class `b` exactly when it is the word of `b`. -/
theorem toInt_eq_class (w : BitVec 32) (b : Fin 64) : w.toInt = b.val ↔ w = BitVec.ofNat 32 b.val := by
  rw [← toInt_class b, BitVec.toInt_inj]

/-- A prediction is one of the classes, so it is not negative. -/
theorem pred_small (v : FVec Ideal S1000000x64 .f32) (r : Fin 1000000) : (pred v (ix1 r)).toNat < 2 ^ 31 := by
  obtain ⟨j, _, e⟩ := RefArgmax.pred_eq v r
  rw [e, BitVec.toNat_ofNat]
  omega

/-- The prediction of row `r` is the class `a` exactly when the row's first greatest weighted score is at `a`. -/
theorem pred_is (v : FVec Ideal S1000000x64 .f32) (r : Fin 1000000) (a : Fin 64) :
    (pred v (ix1 r)).toInt = a.val ↔ IsFirstMax (fun k : Fin 64 => v (ix2 r k)) a := by
  obtain ⟨j, hj, e⟩ := RefArgmax.pred_eq v r
  rw [e, toInt_class, hj.iff_eq, Fin.ext_iff]
  exact Int.ofNat_inj

open Classical in
/-- The reference's count at (a, b) is the number of hits at (b, a). -/
theorem counts_eq (x : FVec Ideal S1000000x64 .f32) (t : IVec S1000000x1 32) (w : FVec Ideal S64 .f32)
    (ht : ∀ i, (t i).toNat < 2 ^ 31) (a b : Fin 64) :
    counts (F := Ideal) (pred (weighted x w)) (targets t) (ix2 a b) = ∑ R : Fin 1000000, hit x t w b a R := by
  rw [RefCounts.counts_apply _ _ (pred_small _) (fun r => by rw [targets_apply]; exact ht _)]
  refine Finset.sum_congr rfl fun r _ => ?_
  unfold hit
  refine if_congr ?_ rfl rfl
  rw [pred_is, targets_apply, toInt_eq_class, and_comm]
  refine and_congr Iff.rfl (iff_of_eq (congrArg (fun v => IsFirstMax v a) (funext fun k => ?_)))
  rw [weighted_apply, mul_comm]

/-- The two losses agree. -/
theorem loss_eq (m : (ℓ : Loc KernelIdeal.nD KernelIdeal.τ KernelIdeal.sig) → Buf (Elt Ideal) ℓ) (c : Dev KernelIdeal.nD)
    (ht : ∀ i, ((m ((c.tc : Thread KernelIdeal.nD KernelIdeal.τ).loc KernelIdeal.main_arg1) : IVec S1000000x1 32) i).toNat < 2 ^ 31) :
    shapeCast S_ (KernelIdeal.Gen.k0_pay1 (F := Ideal) (KernelIdeal.Accumulate.finalTable m c)) KernelIdeal.Gen.shapeCasts_S1x1_S_
      = result (F := Ideal) (m ((c.tc : Thread KernelIdeal.nD KernelIdeal.τ).loc KernelIdeal.main_arg0))
          (m ((c.tc : Thread KernelIdeal.nD KernelIdeal.τ).loc KernelIdeal.main_arg1))
          (m ((c.tc : Thread KernelIdeal.nD KernelIdeal.τ).loc KernelIdeal.main_arg2)) := by
  funext i
  unfold result shapeCast
  rw [KernelIdeal.KernelLoss.loss_eq, RefLoss.loss_eq]
  refine congrArg Loss.loss (funext fun a => funext fun b => ?_)
  exact (finalTable_apply m c b a).trans (counts_eq _ _ _ ht a b).symm

end Cert.Equation

end
-- ==== Proof.lean ====
/-
  The claim: the kernel, its reading over the reals and the reference each run to the end, leaving their arguments and
  every semaphore as they were; and, whenever no target is negative, the kernel read over the reals returns what the
  reference returns, the loss and the class weights.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Accumulate
public import proofs.«01_k».proof.Proof.RefRun
public import proofs.«01_k».proof.Proof.Pre
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- Both programs return the same loss and the class weights unchanged, if no target is negative. -/
theorem algebraic : Cert.algebraic_KernelIdeal_ReferenceIdeal_pre_targets_nonneg (hKernelIdeal := Cert.KernelIdeal.Gen.facts)
    (hReferenceIdeal := Cert.ReferenceIdeal.Gen.facts) (hPre_targets_nonneg := Cert.Pre_targets_nonneg.facts) := by
  intro m g m' g' hpre hargs
  refine ⟨fun c => shapeCast _ (Cert.KernelIdeal.Gen.k0_pay1 (Cert.KernelIdeal.Accumulate.finalTable m c))
      Cert.KernelIdeal.Gen.shapeCasts_S1x1_S_,
    fun c => m ((c.tc : Thread Cert.KernelIdeal.nD Cert.KernelIdeal.τ).loc Cert.KernelIdeal.main_arg2), ?_, ?_⟩
  · refine (θ_run _ _ _).mono (fun r h c => ?_) (Cert.KernelIdeal.Accumulate.run m g)
    obtain ⟨h3, h0, h1, h2⟩ := h c
    exact ⟨h3, h2, h0, h1, h2⟩
  · refine (θ_run _ _ _).mono (fun r h c => ?_) (Cert.ReferenceIdeal.RefRun.run m' g')
    obtain ⟨h47, h0, h1, h2⟩ := h c
    obtain ⟨a0, a1, a2⟩ := hargs c
    refine ⟨h47.trans ?_, h2.trans a2, h0, h1, h2⟩
    rw [a0, a1, a2]
    exact (Cert.Equation.loss_eq m c
      (@Cert.Pre_targets_nonneg.targets_small Cert.Pre_targets_nonneg.facts _ _ _ (hpre c))).symm

theorem claim : Cert.Claim :=
  ⟨Cert.Kernel.Gen.facts, Cert.KernelIdeal.Gen.facts, Cert.ReferenceIdeal.Gen.facts, Cert.Pre_targets_nonneg.facts,
    fun m g _ => Cert.Kernel.Gen.frame m g,
    fun m g _ => Cert.KernelIdeal.Gen.frame m g,
    fun m g _ => Cert.KernelIdeal.Gen.frame m g,
    fun m g _ => Cert.ReferenceIdeal.RefRun.frame m g,
    fun m g _ => Cert.ReferenceIdeal.RefRun.frame m g,
    trivial,
    algebraic⟩

end Cert.Proof

end
